-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "slope" .bf16 0x3C24#16 ((5368709 / 536870912 : ℝ) : EReal)
  ∧ IdealRules.named_const.Statement Cert.KernelIdeal.κ "slope" .f32 0x3C23D70A#32 ((5368709 / 536870912 : ℝ) : EReal)

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_gates : Cert.Pre_finite_gates.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ preserves_Kernel_KernelIdeal
    ∧ algebraic_KernelIdeal_ReferenceIdeal_pre_finite_gates (hKernelIdeal := hKernelIdeal) (hReferenceIdeal := hReferenceIdeal) (hPre_finite_gates := hPre_finite_gates)
-- ==== Pre_finite_gates.lean ====
abbrev S64x128 : Shape := ⟨2, ![64, 128]⟩
abbrev S100000x128 : Shape := ⟨2, ![100000, 128]⟩
abbrev S100000 : Shape := ⟨1, ![100000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S256x128 : Shape := ⟨2, ![256, 128]⟩
abbrev S100000x1 : Shape := ⟨2, ![100000, 1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x128_S128x1_S100000x1_1_0_0_1_n_n_wf : DotDims.WF S100000x128 S128x1 S100000x1 [1] [0] [0] [1] [] []

variable [Facts]

def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def fn {F : FTy → Type} [FloatOps F] (main_arg0 : FVec F S64x128 .f32) (main_arg1 : FVec F S100000x128 .f32) (main_arg2 : IVec S100000 32) (main_arg3 : FVec F S128x1 .f32) (main_arg4 : FVec F S1 .f32) (main_arg5 : FVec F S128x128 .f32) (main_arg6 : FVec F S128 .f32) (main_arg7 : FVec F S256x128 .f32) (main_arg8 : FVec F S128 .f32) : IVec S100000x1 1 :=
  let main_v0 : FVec F S100000x1 .f32 := (fun l r => Host.dotGeneral dot_S100000x128_S128x1_S100000x1_1_0_0_1_n_n none l r) main_arg1 main_arg3
  let main_v1 : FVec F S1x1 .f32 := broadcastInDim S1x1 ![1] bcast_S1_S1x1_1 main_arg4
  let main_v2 : FVec F S100000x1 .f32 := broadcastInDim S100000x1 ![0, 1] bcast_S1x1_S100000x1_0_1 main_v1
  let main_v3 : FVec F S100000x1 .f32 := addf main_v0 main_v2
  let main_v4 : FVec F S100000x1 .f32 := Host.absf main_v3
  let main_cst : FVec F S_ .f32 := constant S_ .f32 0x7F800000#32
  let main_v5 : FVec F S100000x1 .f32 := broadcastInDim S100000x1 ![] bcast_S_S100000x1 main_cst
  let main_v6 : IVec S100000x1 1 := cmpf .olt main_v4 main_v5
  main_v6
-- ==== Kernel.lean ====
abbrev S64x128 : Shape := ⟨2, ![64, 128]⟩
abbrev S100000x128 : Shape := ⟨2, ![100000, 128]⟩
abbrev S100000 : Shape := ⟨1, ![100000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S256x128 : Shape := ⟨2, ![256, 128]⟩
abbrev S25x1x4000 : Shape := ⟨3, ![25, 1, 4000]⟩
abbrev S1x128 : Shape := ⟨2, ![1, 128]⟩
abbrev S4000x128 : Shape := ⟨2, ![4000, 128]⟩
abbrev S1x1x4000 : Shape := ⟨3, ![1, 1, 4000]⟩
abbrev S64x1 : Shape := ⟨2, ![64, 1]⟩
abbrev S4000 : Shape := ⟨1, ![4000]⟩
abbrev S4000x1 : Shape := ⟨2, ![4000, 1]⟩
abbrev S64x4000 : Shape := ⟨2, ![64, 4000]⟩
abbrev S1x4000 : Shape := ⟨2, ![1, 4000]⟩
abbrev S64x256 : Shape := ⟨2, ![64, 256]⟩

abbrev nBuf : Space → Nat
  | .hbm => 15
  | .vmem => 13
  | .smem => 0
  | _ => 0

abbrev bufTy : (tb : Table) → Fin (tcTables nBuf tb) → BufTy
  | .hbm, ⟨0, _⟩ => ⟨S64x128, .f32⟩
  | .hbm, ⟨1, _⟩ => ⟨S100000x128, .f32⟩
  | .hbm, ⟨2, _⟩ => ⟨S100000, .i32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S25x1x4000, .i32⟩
  | .hbm, ⟨10, _⟩ => ⟨S1x128, .f32⟩
  | .hbm, ⟨11, _⟩ => ⟨S1x128, .bf16⟩
  | .hbm, ⟨12, _⟩ => ⟨S1x128, .f32⟩
  | .hbm, ⟨13, _⟩ => ⟨S128x128, .bf16⟩
  | .hbm, ⟨14, _⟩ => ⟨S64x128, .f32⟩
  | .local _ .vmem, ⟨0, _⟩ => ⟨S4000x128, .f32⟩
  | .local _ .vmem, ⟨1, _⟩ => ⟨S4000x128, .f32⟩
  | .local _ .vmem, ⟨2, _⟩ => ⟨S1x1x4000, .i32⟩
  | .local _ .vmem, ⟨3, _⟩ => ⟨S1x1x4000, .i32⟩
  | .local _ .vmem, ⟨4, _⟩ => ⟨S64x128, .f32⟩
  | .local _ .vmem, ⟨5, _⟩ => ⟨S128x1, .f32⟩
  | .local _ .vmem, ⟨6, _⟩ => ⟨S128x128, .bf16⟩
  | .local _ .vmem, ⟨7, _⟩ => ⟨S1x128, .bf16⟩
  | .local _ .vmem, ⟨8, _⟩ => ⟨S256x128, .f32⟩
  | .local _ .vmem, ⟨9, _⟩ => ⟨S1x128, .f32⟩
  | .local _ .vmem, ⟨10, _⟩ => ⟨S64x128, .f32⟩
  | .local _ .vmem, ⟨11, _⟩ => ⟨S64x128, .f32⟩
  | .local _ .vmem, ⟨12, _⟩ => ⟨S64x1, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v43 : BitVec 1 := Scalar.cmpi .eq arg0 c24_i32
  let v44 : BitVec 32 := Scalar.extui v43
  let c0_i32_23 : BitVec 32 := 0#32
  let v45 : BitVec 1 := Scalar.cmpi .ne v44 c0_i32_23
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "slope" => some ((5368709 / 536870912 : ℝ) : EReal)
  | _ => none
-- ==== ReferenceIdeal.lean ====
abbrev S64x128 : Shape := ⟨2, ![64, 128]⟩
abbrev S100000x128 : Shape := ⟨2, ![100000, 128]⟩
abbrev S100000 : Shape := ⟨1, ![100000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S256x128 : Shape := ⟨2, ![256, 128]⟩
abbrev S100000x1 : Shape := ⟨2, ![100000, 1]⟩
abbrev S1x1 : Shape := ⟨2, ![1, 1]⟩
abbrev S1x128 : Shape := ⟨2, ![1, 128]⟩
abbrev S_ : Shape := ⟨0, ![]⟩
abbrev S1x100000 : Shape := ⟨2, ![1, 100000]⟩
abbrev S64x1 : Shape := ⟨2, ![64, 1]⟩
abbrev S64x100000 : Shape := ⟨2, ![64, 100000]⟩
abbrev S64 : Shape := ⟨1, ![64]⟩
abbrev S64x256 : Shape := ⟨2, ![64, 256]⟩

abbrev nBuf : Space → Nat
  | .hbm => 85
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S100000x128, .f32⟩
  | .hbm, ⟨2, _⟩ => ⟨S100000, .i32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S100000x1, .f32⟩
  | .hbm, ⟨10, _⟩ => ⟨S1x1, .f32⟩
  | .hbm, ⟨11, _⟩ => ⟨S100000x1, .f32⟩
  | .hbm, ⟨12, _⟩ => ⟨S100000x1, .f32⟩
  | .hbm, ⟨13, _⟩ => ⟨S100000, .f32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S_, .f32⟩
  | .hbm, ⟨19, _⟩ => ⟨S_, .f32⟩
  | .hbm, ⟨20, _⟩ => ⟨S100000x128, .f32⟩
  | .hbm, ⟨21, _⟩ => ⟨S100000x128, .i1⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x100000, .i32⟩
  | .hbm, ⟨27, _⟩ => ⟨S64x1, .i32⟩
  | .hbm, ⟨28, _⟩ => ⟨S64x100000, .i32⟩
  | .hbm, ⟨29, _⟩ => ⟨S64x100000, .i32⟩
  | .hbm, ⟨30, _⟩ => ⟨S64x100000, .i1⟩
  | .hbm, ⟨31, _⟩ => ⟨S1x100000, .f32⟩
  | .hbm, ⟨32, _⟩ => ⟨S_, .f32⟩
  | .hbm, ⟨33, _⟩ => ⟨S_, .f32⟩
  | .hbm, ⟨34, _⟩ => ⟨S64x100000, .f32⟩
  | .hbm, ⟨35, _⟩ => ⟨S64x100000, .f32⟩
  | .hbm, ⟨36, _⟩ => ⟨S64x100000, .f32⟩
  | .hbm, ⟨37, _⟩ => ⟨S_, .f32⟩
  | .hbm, ⟨38, _⟩ => ⟨S64, .f32⟩
  | .hbm, ⟨39, _⟩ => ⟨S_, .i32⟩
  | .hbm, ⟨40, _⟩ => ⟨S100000, .i32⟩
  | .hbm, ⟨41, _⟩ => ⟨S100000, .i1⟩
  | .hbm, ⟨42, _⟩ => ⟨S_, .i32⟩
  | .hbm, ⟨43, _⟩ => ⟨S100000, .i32⟩
  | .hbm, ⟨44, _⟩ => ⟨S100000, .i32⟩
  | .hbm, ⟨45, _⟩ => ⟨S100000, .i32⟩
  | .hbm, ⟨46, _⟩ => ⟨S100000x1, .i32⟩
  | .hbm, ⟨47, _⟩ => ⟨S100000, .f32⟩
  | .hbm, ⟨48, _⟩ => ⟨S100000, .f32⟩
  | .hbm, ⟨49, _⟩ => ⟨S100000, .f32⟩
  | .hbm, ⟨50, _⟩ => ⟨S_, .f32⟩
  | .hbm, ⟨51, _⟩ => ⟨S64, .f32⟩
  | .hbm, ⟨52, _⟩ => ⟨S100000x1, .i32⟩
  | .hbm, ⟨53, _⟩ => ⟨S64, .f32⟩
  | .hbm, ⟨54, _⟩ => ⟨S_, .i32⟩
  | .hbm, ⟨55, _⟩ => ⟨S100000, .i32⟩
  | .hbm, ⟨56, _⟩ => ⟨S100000, .i1⟩
  | .hbm, ⟨57, _⟩ => ⟨S_, .i32⟩
  | .hbm, ⟨58, _⟩ => ⟨S100000, .i32⟩
  | .hbm, ⟨59, _⟩ => ⟨S100000, .i32⟩
  | .hbm, ⟨60, _⟩ => ⟨S100000, .i32⟩
  | .hbm, ⟨61, _⟩ => ⟨S100000x1, .i32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S64x128, .f32⟩
  | .hbm, ⟨69, _⟩ => ⟨S100000x1, .i32⟩
  | .hbm, ⟨70, _⟩ => ⟨S64x128, .f32⟩
  | .hbm, ⟨71, _⟩ => ⟨S64x256, .f32⟩
  | .hbm, ⟨72, _⟩ => ⟨S64x128, .f32⟩
  | .hbm, ⟨73, _⟩ => ⟨S1x128, .f32⟩
  | .hbm, ⟨74, _⟩ => ⟨S64x128, .f32⟩
  | .hbm, ⟨75, _⟩ => ⟨S64x128, .f32⟩
  | .hbm, ⟨76, _⟩ => ⟨S_, .f32⟩
  | .hbm, ⟨77, _⟩ => ⟨S_, .f32⟩
  | .hbm, ⟨78, _⟩ => ⟨S64x128, .f32⟩
  | .hbm, ⟨79, _⟩ => ⟨S64x128, .i1⟩
  | .hbm, ⟨80, _⟩ => ⟨S_, .f32⟩
  | .hbm, ⟨81, _⟩ => ⟨S64x128, .f32⟩
  | .hbm, ⟨82, _⟩ => ⟨S64x128, .f32⟩
  | .hbm, ⟨83, _⟩ => ⟨S64x128, .f32⟩
  | .hbm, ⟨84, _⟩ => ⟨S64x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v49 : Ref sig .tc := ⟨.hbm, 83, rfl⟩
abbrev main_v50 : Ref sig .tc := ⟨.hbm, 84, rfl⟩

abbrev nD : Nat := 1
abbrev τ : Topo := Topo.v7x

variable {F : FTy → Type} [FloatOps F]
-- ==== Proof.Softmax.lean ====
/-
  The arithmetic of attention pooling on the extended reals, apart from any program. A segment's pooled value is the
  weighted sum of its rows' features, the weights a softmax of the rows' gates. One program sums `feature · exp gate` and
  divides the sum once by the total of the `exp gate`s; the other shifts every gate by one real number, exponentiates,
  divides each weight by the total of the weights, and sums `weight · feature`. The two are one extended real, whatever the
  features are — infinite ones included — as soon as the gates are real numbers.
-/
module

public import Idealize.ShloMosaic.Lib.Pointwise

@[expose] public section

noncomputable section

open Idealize.ShloMosaic

namespace Cert.Softmax

variable {ι : Type*}

/-- A nonnegative real factor distributes over a finite sum of extended reals. -/
theorem sum_mul_real (S : Finset ι) (f : ι → EReal) (r : ℝ) (hr : 0 ≤ r) :
    (∑ i ∈ S, f i) * (r : EReal) = ∑ i ∈ S, f i * (r : EReal) := by
  classical
  induction S using Finset.induction_on with
  | empty => simp
  | insert a s ha ih =>
    rw [Finset.sum_insert ha, Finset.sum_insert ha,
      EReal.right_distrib_of_nonneg_of_ne_top (EReal.coe_nonneg.2 hr) (EReal.coe_ne_top r), ih]

/-- A finite sum of real numbers, read as extended reals, is the real sum. -/
theorem sum_coe (S : Finset ι) (a : ι → ℝ) : ∑ i ∈ S, ((a i : ℝ) : EReal) = ((∑ i ∈ S, a i : ℝ) : EReal) := by
  classical
  induction S using Finset.induction_on with
  | empty => simp
  | insert b s hb ih => rw [Finset.sum_insert hb, Finset.sum_insert hb, ih, EReal.coe_add]

/-- The pooled value of a segment `S` whose rows have gates `a` and features `f`: the sum of `feature · exp gate` over the
    total of the `exp gate`s, an empty segment dividing by one. -/
def pooled (S : Finset ι) (a : ι → ℝ) (f : ι → EReal) : EReal :=
  Ideal.div (∑ i ∈ S, f i * ((Real.exp (a i) : ℝ) : EReal))
    (if ∑ i ∈ S, ((Real.exp (a i) : ℝ) : EReal) = 0 then 1 else ∑ i ∈ S, ((Real.exp (a i) : ℝ) : EReal))

/-- Pooling with gates shifted by a real `c` and each weight normalised before the sum is the pooled value. -/
theorem sum_weights (S : Finset ι) (a : ι → ℝ) (f : ι → EReal) (c : ℝ) :
    ∑ i ∈ S, Ideal.div ((Real.exp (a i + c) : ℝ) : EReal) (∑ j ∈ S, ((Real.exp (a j + c) : ℝ) : EReal)) * f i
      = pooled S a f := by
  unfold pooled
  rcases S.eq_empty_or_nonempty with rfl | hS
  · have h := Ideal.div_coe (y := 1) one_ne_zero 0
    rw [EReal.coe_one] at h
    simp [h]
  · have hD : 0 < ∑ i ∈ S, Real.exp (a i) := Finset.sum_pos (fun i _ => Real.exp_pos _) hS
    have hc : ∑ i ∈ S, Real.exp (a i + c) = (∑ i ∈ S, Real.exp (a i)) * Real.exp c := by
      rw [Finset.sum_mul]; exact Finset.sum_congr rfl fun i _ => Real.exp_add _ _
    have hDc : ∑ i ∈ S, Real.exp (a i + c) ≠ 0 := by
      rw [hc]; exact mul_ne_zero hD.ne' (Real.exp_pos c).ne'
    have hD0 : ((∑ i ∈ S, Real.exp (a i) : ℝ) : EReal) ≠ 0 := fun h => hD.ne' (EReal.coe_eq_zero.1 h)
    rw [sum_coe, sum_coe, if_neg hD0, Ideal.div_coe hD.ne', sum_mul_real _ _ _ (by positivity)]
    refine Finset.sum_congr rfl fun i _ => ?_
    rw [Ideal.div_coe hDc, mul_comm _ (f i), mul_assoc, ← EReal.coe_mul, ← EReal.coe_mul, hc, Real.exp_add]
    congr 2
    field_simp

/-- The larger of `h` and `r · h`, for `0 ≤ r ≤ 1`, is `h` where it is nonnegative and `r · h` elsewhere. -/
theorem max_leaky (h : EReal) (r : ℝ) (h0 : 0 ≤ r) (h1 : r ≤ 1) :
    max h ((r : EReal) * h) = if 0 ≤ h then h else (r : EReal) * h := by
  induction h using EReal.rec with
  | bot =>
    rw [if_neg (by simp), max_eq_right bot_le]
  | top =>
    rw [if_pos le_top, max_eq_left le_top]
  | coe x =>
    rw [← EReal.coe_mul]
    by_cases hx : 0 ≤ x
    · rw [if_pos (EReal.coe_nonneg.2 hx), max_eq_left]
      exact EReal.coe_le_coe_iff.2 (by nlinarith)
    · rw [if_neg (fun h => hx (EReal.coe_nonneg.1 h)), max_eq_right]
      exact EReal.coe_le_coe_iff.2 (by nlinarith)

/-- The maximum, from `-∞`, of finitely many extended reals none of them `+∞` and one of them real is a real number. -/
theorem fold_max_real [DecidableEq ι] (S : Finset ι) (g : ι → EReal) (hT : ∀ i ∈ S, g i ≠ ⊤) (hB : ∃ i ∈ S, g i ≠ ⊥) :
    ∃ r : ℝ, S.fold max ⊥ g = (r : EReal) := by
  have ht : S.fold max ⊥ g ≠ ⊤ := fun h => by
    have := (Finset.fold_max_lt (b := (⊥ : EReal)) (f := g) (s := S) ⊤).2
      ⟨bot_lt_top, fun i hi => lt_top_iff_ne_top.2 (hT i hi)⟩
    exact this.ne h
  have hb : S.fold max ⊥ g ≠ ⊥ := fun h => by
    obtain ⟨i, hi, hgi⟩ := hB
    have := (Finset.le_fold_max (b := (⊥ : EReal)) (f := g) (s := S) (g i)).2 (Or.inr ⟨i, hi, le_rfl⟩)
    rw [h] at this
    exact hgi (le_bot_iff.1 this)
  exact ⟨(S.fold max ⊥ g).toReal, (EReal.coe_toReal ht hb).symm⟩

end Cert.Softmax

end
-- ==== Proof.Spec.lean ====
module

public import proofs.«01_k».proof.Proof.Softmax

@[expose] public section

set_option maxRecDepth 16384

noncomputable section

open Idealize.ShloMosaic

/-! Global attention pooling written out over plain functions of row and column numbers, with exact arithmetic on the
    extended reals. Both programs are brought to this form: the kernel with the scores `score`, the reference with the
    same scores shifted by a constant on each group. -/

namespace Cert.Pool

/-- The negative slope of the leaky activation: the real number the single precision literal 0.01 denotes. -/
def slope : ℝ := 5368709 / 536870912

theorem slope_nonneg : 0 ≤ slope := by unfold slope; norm_num

theorem slope_le_one : slope ≤ 1 := by unfold slope; norm_num

/-- The leaky activation: the identity from zero up, multiplication by the slope below. -/
def leaky (h : EReal) : EReal := if 0 ≤ h then h else (slope : EReal) * h

/-- The attention score of row `n` without its bias: row `n` of `X` against the weights `w`. -/
def score (X : Fin 100000 → Fin 128 → EReal) (w : Fin 128 → EReal) (n : Fin 100000) : EReal :=
  ∑ k, X n k * w k

/-- The feature `d` of row `n`: the leaky activation of a linear layer. -/
def feat (X : Fin 100000 → Fin 128 → EReal) (W : Fin 128 → Fin 128 → EReal) (b : Fin 128 → EReal)
    (n : Fin 100000) (d : Fin 128) : EReal :=
  leaky (∑ k, X n k * W k d + b d)

/-- The rows whose group number is `s`. -/
def members (B : Fin 100000 → BitVec 32) (s : Fin 64) : Finset (Fin 100000) :=
  Finset.univ.filter fun n => B n = BitVec.ofNat 32 s.val

/-- The last layer: pooled rows `P` beside the old rows `xo`, one linear layer, the leaky activation, and the old row
    added back. -/
def head (P : Fin 64 → Fin 128 → EReal) (xo : Fin 64 → Fin 128 → EReal) (W : Fin 256 → Fin 128 → EReal)
    (b : Fin 128 → EReal) (s : Fin 64) (d : Fin 128) : EReal :=
  leaky (∑ x : Fin 128, P s x * W ⟨x.val, by omega⟩ d + ∑ x : Fin 128, xo s x * W ⟨128 + x.val, by omega⟩ d + b d) + xo s d

/-- The weighted sum of a group over the sum of its weights, the divisor replaced by one where it is zero: what the
    kernel's two accumulators give, with the weights `exp (score n)`. -/
def quotient (E : Fin 100000 → EReal) (f : Fin 100000 → Fin 128 → EReal) (B : Fin 100000 → BitVec 32)
    (s : Fin 64) (d : Fin 128) : EReal :=
  Ideal.div (∑ n ∈ members B s, f n d * E n) (if ∑ n ∈ members B s, E n = 0 then 1 else ∑ n ∈ members B s, E n)

/-- A sum over all rows in which a row counts once if it is in group `s` and not at all otherwise is the sum over the
    group. -/
theorem sum_hot (B : Fin 100000 → BitVec 32) (s : Fin 64) (f : Fin 100000 → EReal) :
    ∑ n, (if BitVec.ofNat 32 s.val = B n then (1 : EReal) else 0) * f n = ∑ n ∈ members B s, f n := by
  unfold members
  rw [Finset.sum_filter]
  refine Finset.sum_congr rfl fun n _ => ?_
  by_cases h : B n = BitVec.ofNat 32 s.val
  · rw [if_pos h.symm, if_pos h, one_mul]
  · rw [if_neg (Ne.symm h), if_neg h, zero_mul]

end Cert.Pool

end
-- ==== Proof.Indexed.lean ====
module

public import Idealize.ShloMosaic.Lib.Routing.OpsPair
public import Idealize.ShloMosaic.Lib.StableHlo.Predicate
public import Idealize.ShloMosaic.Lib.Pointwise

@[expose] public section

set_option maxRecDepth 16384

noncomputable section

open Idealize.ShloMosaic Idealize.ShloMosaic.Routing

/-! The segment sum of a vector and of the rows of a matrix, and the look-up of a vector at a column of positions, as host
    operations, read at one element. Any sizes. -/

namespace Cert.Indexed

/-- Update `n` of a segment sum of a vector lands at `s` exactly when its index word, read signed, is `s`. -/
theorem lands_vec {K N w : ℕ} (d : ScatterDims (shape1 K) (shape2 N 1) (shape1 N)) (hiw : d.insertedWindowDims = [0])
    (hsd : d.scatterDimsToOperandDims = [0]) (hivd : d.indexVectorDim = 1) (idx : IVec (shape2 N 1) w) (n : Fin N) (s : Fin K) :
    d.resultIdx? (ix1 n) idx = some (ix1 s) ↔ (idx (ix2 n 0)).toInt = (s.val : ℤ) := by
  have hm : (0 : Fin 1) ∈ d.scatterDimsToOperandDims := by rw [hsd]; exact List.mem_singleton.2 rfl
  have hwin : d.window (ix1 n) 0 = 0 := by
    unfold ScatterDims.window
    rw [dif_neg fun h => (of_decide_eq_true (List.mem_filter.1 h).2) (by rw [hiw]; exact List.mem_singleton.2 rfl)]
  have hstart : d.start (ix1 n) idx 0 = (idx (ix2 n 0)).toInt := by
    unfold ScatterDims.start
    rw [dif_pos hm]
    have hsi : d.siIdx (ix1 n) ⟨d.scatterDimsToOperandDims.idxOf 0, List.idxOf_lt_length_iff.2 hm⟩ = ix2 n (0 : Fin 1) := by
      funext b
      match b with
      | ⟨0, _⟩ =>
        unfold ScatterDims.siIdx
        rw [dif_neg (by rw [hivd]; exact Nat.zero_ne_one)]
        unfold ScatterDims.siCoord
        apply Fin.ext
        simp only [Fin.val_cast]
        have q : ∀ a : Fin 1, (ix1 n a).val = n.val := fun a => by
          obtain rfl : a = 0 := Subsingleton.elim _ _
          rfl
        exact q _
      | ⟨1, _⟩ => exact Subsingleton.elim (α := Fin 1) _ _
    rw [hsi]
  refine (resultIdx?_ix1 d (ix1 n) idx s).trans ?_
  rw [hstart, hwin]
  simp

/-- Entry `e` of update row `n` of a segment sum of rows lands at `(s, c)` exactly when the row's index word, read signed,
    is `s` and `e` is `c`. -/
theorem lands_rows {K N D w : ℕ} (d : ScatterDims (shape2 K D) (shape2 N 1) (shape2 N D)) (huw : d.updateWindowDims = [1])
    (hiw : d.insertedWindowDims = [0]) (hsd : d.scatterDimsToOperandDims = [0]) (hivd : d.indexVectorDim = 1)
    (idx : IVec (shape2 N 1) w) (n : Fin N) (e : Fin D) (s : Fin K) (c : Fin D) :
    d.resultIdx? (ix2 n e) idx = some (ix2 s c) ↔ (idx (ix2 n 0)).toInt = (s.val : ℤ) ∧ e = c := by
  have hm : (0 : Fin 2) ∈ d.scatterDimsToOperandDims := by rw [hsd]; exact List.mem_singleton.2 rfl
  have hkept : d.sKept = [1] := by
    show (shape2 K D).kept d.insertedWindowDims = _
    rw [hiw]
    rfl
  have hus : d.uScatter = [0] := by
    show (shape2 N D).kept d.updateWindowDims = _
    rw [huw]
    rfl
  have hwin0 : d.window (ix2 n e) 0 = 0 := by
    unfold ScatterDims.window
    rw [dif_neg fun h => (of_decide_eq_true (List.mem_filter.1 h).2) (by rw [hiw]; exact List.mem_singleton.2 rfl)]
  have hwin1 : d.window (ix2 n e) 1 = e.val := by
    unfold ScatterDims.window
    rw [dif_pos (by rw [hkept]; exact List.mem_singleton.2 rfl)]
    have q : ∀ a : Fin 2, a ∈ d.updateWindowDims → (ix2 n e a).val = e.val := fun a ha => by
      rw [huw] at ha
      obtain rfl := List.mem_singleton.1 ha
      rfl
    exact q _ (List.getElem_mem _)
  have hstart1 : d.start (ix2 n e) idx 1 = 0 := by
    unfold ScatterDims.start
    rw [dif_neg fun h => by rw [hsd] at h; exact absurd (List.mem_singleton.1 h) (by decide : (1 : Fin 2) ≠ 0)]
  have hstart0 : d.start (ix2 n e) idx 0 = (idx (ix2 n 0)).toInt := by
    unfold ScatterDims.start
    rw [dif_pos hm]
    have hsi : d.siIdx (ix2 n e) ⟨d.scatterDimsToOperandDims.idxOf 0, List.idxOf_lt_length_iff.2 hm⟩ = ix2 n (0 : Fin 1) := by
      funext b
      match b with
      | ⟨0, _⟩ =>
        unfold ScatterDims.siIdx
        rw [dif_neg (by rw [hivd]; exact Nat.zero_ne_one)]
        unfold ScatterDims.siCoord
        apply Fin.ext
        simp only [Fin.val_cast]
        have q : ∀ a : Fin 2, a ∈ d.uScatter → (ix2 n e a).val = n.val := fun a ha => by
          rw [hus] at ha
          obtain rfl := List.mem_singleton.1 ha
          rfl
        exact q _ (List.getElem_mem _)
      | ⟨1, _⟩ => exact Subsingleton.elim (α := Fin 1) _ _
    rw [hsi]
  refine (resultIdx?_ix2 d (ix2 n e) idx s c).trans ?_
  rw [hstart0, hstart1, hwin0, hwin1, Fin.ext_iff]
  constructor
  · rintro ⟨h, h'⟩; exact ⟨by omega, by omega⟩
  · rintro ⟨h, h'⟩; exact ⟨by omega, by omega⟩

/-- The segment sum of a vector at `s`: the start value and the updates whose index word, read signed, is `s`. -/
theorem segment_sum_vec {K N w : ℕ} (d : ScatterDims (shape1 K) (shape2 N 1) (shape1 N)) (hiw : d.insertedWindowDims = [0])
    (hsd : d.scatterDimsToOperandDims = [0]) (hivd : d.indexVectorDim = 1) (x : (shape1 K).Idx → EReal)
    (idx : IVec (shape2 N 1) w) (u : (shape1 N).Idx → EReal) (s : Fin K) :
    Ideal.hostScatterAdd d x idx u (ix1 s)
      = x (ix1 s) + ∑ n ∈ Finset.univ.filter (fun n : Fin N => (idx (ix2 n 0)).toInt = (s.val : ℤ)), u (ix1 n) := by
  unfold Ideal.hostScatterAdd
  rw [Finset.sum_filter, Finset.sum_filter]
  refine congrArg (x (ix1 s) + ·) ((sum_idx1 _).trans (Finset.sum_congr rfl fun n _ => ?_))
  simp only [lands_vec d hiw hsd hivd]

/-- The segment sum of rows at `(s, c)`: the start value and column `c` of the rows whose index word, read signed, is `s`. -/
theorem segment_sum_rows {K N D w : ℕ} (d : ScatterDims (shape2 K D) (shape2 N 1) (shape2 N D)) (huw : d.updateWindowDims = [1])
    (hiw : d.insertedWindowDims = [0]) (hsd : d.scatterDimsToOperandDims = [0]) (hivd : d.indexVectorDim = 1)
    (x : (shape2 K D).Idx → EReal) (idx : IVec (shape2 N 1) w) (u : (shape2 N D).Idx → EReal) (s : Fin K) (c : Fin D) :
    Ideal.hostScatterAdd d x idx u (ix2 s c)
      = x (ix2 s c) + ∑ n ∈ Finset.univ.filter (fun n : Fin N => (idx (ix2 n 0)).toInt = (s.val : ℤ)), u (ix2 n c) := by
  unfold Ideal.hostScatterAdd
  rw [Finset.sum_filter, Finset.sum_filter]
  refine congrArg (x (ix2 s c) + ·) ((sum_idx2 _).trans (Finset.sum_congr rfl fun n _ => ?_))
  simp only [lands_rows d huw hiw hsd hivd]
  by_cases h : (idx (ix2 n 0)).toInt = (s.val : ℤ)
  · simp [h]
  · simp [h]

/-- A look-up of a vector at a column of positions, where the position of row `n` is the word `s`: entry `s`. -/
theorem look_up {α : Type} {K N : ℕ} (d : GatherDims (shape1 K) (shape2 N 1) (shape1 N)) (hcoll : d.collapsedSliceDims = [0])
    (hob : d.operandBatchingDims = []) (hsim : d.startIndexMap = [0]) (hivd : d.indexVectorDim = 1) (x : (shape1 K).Idx → α)
    (idx : IVec (shape2 N 1) 32) (n : Fin N) (s : Fin K) (hK : K < 2 ^ 31) (h : idx (ix2 n 0) = BitVec.ofNat 32 s.val) :
    Host.gather d x idx (ix1 n) = x (ix1 s) := by
  have hs := s.isLt
  have e1 : (Shape.Idx.ofFin n : (shape1 N).Idx) = ix1 n := ofFin_eq_ix1 n
  have e2 : (StableHlo.Predicate.ixP n : (shape2 N 1).Idx) = ix2 n 0 := ixP_eq_ix2 n
  have e3 : (Shape.Idx.ofFin s : (shape1 K).Idx) = ix1 s := ofFin_eq_ix1 s
  rw [← e1, ← e3, StableHlo.Predicate.gather_take d hcoll hob hsim hivd x idx n (by omega)]
  refine congrArg (fun i => x (Shape.Idx.ofFin i)) (Fin.ext ?_)
  show min (idx (StableHlo.Predicate.ixP n)).toInt.toNat (K - 1) = s.val
  rw [e2, h, StableHlo.Predicate.toInt_ofNat_small _ (by omega), Int.toNat_natCast]
  omega

/-- A word is a small number exactly when its signed reading is. -/
theorem toInt_eq_iff (b : BitVec 32) (s : ℕ) (hs : s < 2 ^ 31) : b.toInt = (s : ℤ) ↔ b = BitVec.ofNat 32 s := by
  rw [← StableHlo.Predicate.toInt_ofNat_small s hs]
  exact BitVec.toInt_inj

end Cert.Indexed

end
-- ==== Proof.RefStages.lean ====
module

public import proofs.«01_k».proof.Proof.Gen.ReferenceIdeal.Run
public import proofs.«01_k».proof.Proof.Spec
public import proofs.«01_k».proof.Proof.Indexed

@[expose] public section

set_option maxRecDepth 16384

noncomputable section

open Idealize.ShloMosaic Idealize.ShloMosaic.TcCoe Idealize.SL.Sem

/-! The reference's result in named stages: the scores, the largest score of each group, the weights, their sums, the
    shares, the features, the pooled rows, the last layer. -/

namespace Cert.ReferenceIdeal.Stages

open Cert.ReferenceIdeal Facts₀ Facts

/-- The score of every row, with its bias. -/
def gate (x : FVec Ideal S100000x128 .f32) (wm : FVec Ideal S128x1 .f32) (bm : FVec Ideal S1 .f32) : FVec Ideal S100000 .f32 :=
  shapeCast _ (addf (Host.dotGeneral dot_S100000x128_S128x1_S100000x1_1_0_0_1_n_n none x wm)
    (broadcastInDim S100000x1 ![0, 1] bcast_S1x1_S100000x1_0_1 (broadcastInDim S1x1 ![1] bcast_S1_S1x1_1 bm))) shapeCasts_S100000x1_S100000

/-- The group numbers as a column of positions. -/
def column (b : IVec S100000 32) : IVec S100000x1 32 := broadcastInDim S100000x1 ![0] bcast_S100000_S100000x1_0 b

/-- The group numbers with 64 added where they are negative. -/
def wrapped (b : IVec S100000 32) : IVec S100000 32 :=
  select (cmpi .slt b (broadcastInDim S100000 ![] bcast_S_S100000 (constantI S_ 32 0#32)))
    (addi b (broadcastInDim S100000 ![] bcast_S_S100000 (constantI S_ 32 64#32))) b

/-- The largest score of each group, minus infinity for a group without rows. -/
def top (g : FVec Ideal S100000 .f32) (b : IVec S100000 32) : FVec Ideal S64 .f32 :=
  Host.reduce FloatOps.maximumf
    (select (cmpi .eq (broadcastInDim S64x100000 ![0, 1] bcast_S1x100000_S64x100000_0_1 (broadcastInDim S1x100000 ![1] bcast_S100000_S1x100000_1 b))
        (broadcastInDim S64x100000 ![0, 1] bcast_S64x1_S64x100000_0_1 (iotaInDim S64x1 32 0)))
      (broadcastInDim S64x100000 ![0, 1] bcast_S1x100000_S64x100000_0_1 (broadcastInDim S1x100000 ![1] bcast_S100000_S1x100000_1 g))
      (broadcastInDim S64x100000 ![] bcast_S_S64x100000 (id (constant S_ .f32 0xFF800000#32))))
    (constant S_ .f32 0xFF800000#32) reducesTo_S64x100000_S64_d1 h_S_

/-- The value each row's group has in a table with one entry for each group. -/
def ofGroup (v : FVec Ideal S64 .f32) (b : IVec S100000 32) : FVec Ideal S100000 .f32 :=
  Host.gather gather_S64_S100000x1_S100000_n_0_n_n_0_1_1 v (column (wrapped b))

/-- The weight of every row: the exponential of its score less the largest of its group. -/
def weight (g : FVec Ideal S100000 .f32) (b : IVec S100000 32) : FVec Ideal S100000 .f32 :=
  Host.exp (subf g (ofGroup (top g b) b))

/-- The sum of a group's values. -/
def total (e : FVec Ideal S100000 .f32) (b : IVec S100000 32) : FVec Ideal S64 .f32 :=
  Host.scatterAdd scatter_S64_S100000x1_S100000_n_0_0_1 (broadcastInDim S64 ![] bcast_S_S64 (constant S_ .f32 0x00000000#32)) (column b) e

/-- A row's share of its group: its weight over the sum of the group's weights. -/
def share (e : FVec Ideal S100000 .f32) (b : IVec S100000 32) : FVec Ideal S100000 .f32 :=
  Host.divf e (ofGroup (total e b) b)

/-- The features before their activation. -/
def linear (x : FVec Ideal S100000x128 .f32) (wf : FVec Ideal S128x128 .f32) (bf : FVec Ideal S128 .f32) : FVec Ideal S100000x128 .f32 :=
  addf (Host.dotGeneral dot_S100000x128_S128x128_S100000x128_1_0_0_1_n_n none x wf)
    (broadcastInDim S100000x128 ![0, 1] bcast_S1x128_S100000x128_0_1 (broadcastInDim S1x128 ![1] bcast_S128_S1x128_1 bf))

/-- The features. -/
def feature (f : FVec Ideal S100000x128 .f32) : FVec Ideal S100000x128 .f32 :=
  select (cmpf .oge f (broadcastInDim S100000x128 ![] bcast_S_S100000x128 (constant S_ .f32 0x00000000#32))) f
    (mulf (broadcastInDim S100000x128 ![] bcast_S_S100000x128 (id (constant S_ .f32 0x3C23D70A#32))) f)

/-- The pooled rows: each group's sum of shares times features. -/
def pool (a : FVec Ideal S100000 .f32) (f : FVec Ideal S100000x128 .f32) (b : IVec S100000 32) : FVec Ideal S64x128 .f32 :=
  Host.scatterAdd scatter_S64x128_S100000x1_S100000x128_1_0_0_1 (broadcastInDim S64x128 ![] bcast_S_S64x128 (constant S_ .f32 0x00000000#32)) (column b)
    (mulf (broadcastInDim S100000x128 ![0, 1] bcast_S100000x1_S100000x128_0_1 (broadcastInDim S100000x1 ![0] bcast_S100000_S100000x1_0 a)) f)

/-- The last linear layer over the pooled rows beside the old rows. -/
def last (p xo : FVec Ideal S64x128 .f32) (wt : FVec Ideal S256x128 .f32) (bt : FVec Ideal S128 .f32) : FVec Ideal S64x128 .f32 :=
  addf (Host.dotGeneral dot_S64x256_S256x128_S64x128_1_0_0_1_n_n none
      (concatenate S64x256 1 [⟨S64x128, p⟩, ⟨S64x128, xo⟩] concatenates_S64x128_S64x128_S64x256_d1) wt)
    (broadcastInDim S64x128 ![0, 1] bcast_S1x128_S64x128_0_1 (broadcastInDim S1x128 ![1] bcast_S128_S1x128_1 bt))

/-- The result: the last layer's activation and the old rows added back. -/
def out (t xo : FVec Ideal S64x128 .f32) : FVec Ideal S64x128 .f32 :=
  addf (select (cmpf .oge t (broadcastInDim S64x128 ![] bcast_S_S64x128 (constant S_ .f32 0x00000000#32))) t
    (mulf (broadcastInDim S64x128 ![] bcast_S_S64x128 (id (constant S_ .f32 0x3C23D70A#32))) t)) xo

/-- The whole reference over its arguments. -/
def whole (xo : FVec Ideal S64x128 .f32) (x : FVec Ideal S100000x128 .f32) (b : IVec S100000 32) (wm : FVec Ideal S128x1 .f32)
    (bm : FVec Ideal S1 .f32) (wf : FVec Ideal S128x128 .f32) (bf : FVec Ideal S128 .f32) (wt : FVec Ideal S256x128 .f32)
    (bt : FVec Ideal S128 .f32) : FVec Ideal S64x128 .f32 :=
  out (last (pool (share (weight (gate x wm bm) b) b) (feature (linear x wf bf)) b) xo wt bt) xo

/-- The reference's result array is these stages in order. -/
theorem result_eq (m : (ℓ : Loc nD τ sig) → Buf (Elt Ideal) ℓ) (c : Dev nD) :
    Value.res_main_v50 m c
      = whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := rfl

end Cert.ReferenceIdeal.Stages

end
-- ==== Proof.Literals.lean ====
module

public import proofs.«01_k».proof.Proof.Spec
public import Idealize.ShloMosaic.PureOps.Ideal

@[expose] public section

noncomputable section

open Idealize.ShloMosaic

/-! The extended reals that the reference's float literals denote. -/

namespace Cert.Literals

/-- The single precision literal 0.01 denotes the slope. -/
theorem hundredth : Ideal.ofBits .f32 0x3C23D70A#32 = ((Pool.slope : ℝ) : EReal) := by
  unfold Pool.slope
  simp [Ideal.ofBits, Ideal.ieee, -EReal.coe_mul]; norm_num

/-- The literal minus infinity denotes the least extended real. -/
theorem minus_infinity : Ideal.ofBits .f32 0xFF800000#32 = (⊥ : EReal) := by
  simp [Ideal.ofBits, Ideal.ieee]

/-- The literal infinity denotes the greatest extended real. -/
theorem infinity : Ideal.ofBits .f32 0x7F800000#32 = (⊤ : EReal) := by
  simp [Ideal.ofBits, Ideal.ieee]

end Cert.Literals

end
-- ==== Proof.RefValue.lean ====
module

public import proofs.«01_k».proof.Proof.RefStages
public import proofs.«01_k».proof.Proof.Literals

@[expose] public section

set_option maxRecDepth 16384

noncomputable section

open Idealize.ShloMosaic Idealize.ShloMosaic.TcCoe Idealize.SL.Sem

/-! The reference's stages read element by element. -/

namespace Cert.ReferenceIdeal.Stages

open Cert.ReferenceIdeal Facts₀ Facts

/-- The score of row `n`: the row against the score weights, plus the bias. -/
theorem gate_apply (x : FVec Ideal S100000x128 .f32) (wm : FVec Ideal S128x1 .f32) (bm : FVec Ideal S1 .f32) (n : Fin 100000) :
    gate x wm bm (ix1 n) = ∑ k : Fin 128, x (ix2 n k) * wm (ix2 k 0) + bm (ix1 0) := by
  pointwise [gate]

/-- The column of positions holds the group numbers. -/
theorem column_apply (b : IVec S100000 32) (n : Fin 100000) : column b (ix2 n 0) = b (ix1 n) := by
  pointwise [column]

/-- A group number in range is not wrapped. -/
theorem wrapped_apply (b : IVec S100000 32) (n : Fin 100000) (s : Fin 64) (h : b (ix1 n) = BitVec.ofNat 32 s.val) :
    wrapped b (ix1 n) = BitVec.ofNat 32 s.val := by
  pointwise [wrapped]
  rw [Routing.wrap_of_lt _ _ (by rw [h, BitVec.toNat_ofNat]; have := s.isLt; omega), h]

/-- A row in group `s` looks up entry `s`. -/
theorem ofGroup_apply (v : FVec Ideal S64 .f32) (b : IVec S100000 32) (n : Fin 100000) (s : Fin 64)
    (h : b (ix1 n) = BitVec.ofNat 32 s.val) : ofGroup v b (ix1 n) = v (ix1 s) := by
  unfold ofGroup
  exact Indexed.look_up _ rfl rfl rfl rfl v _ n s (by norm_num) (by rw [column_apply, wrapped_apply b n s h])

/-- The largest score of group `s`. -/
theorem top_apply (g : FVec Ideal S100000 .f32) (b : IVec S100000 32) (s : Fin 64) :
    top g b (ix1 s) = Finset.univ.fold max (⊥ : EReal) fun n : Fin 100000 => if b (ix1 n) = BitVec.ofNat 32 s.val then g (ix1 n) else ⊥ := by
  pointwise [top]
  show Finset.fold max (Ideal.ofBits .f32 0xFF800000#32)
    (fun x : Fin 100000 => Scalar.select (IntOp.cmpi .eq (b (ix1 x)) (BitVec.ofNat 32 s.val)) (g (ix1 x)) (Ideal.ofBits .f32 0xFF800000#32)) Finset.univ = _
  rw [Literals.minus_infinity]
  refine congrArg (fun f => Finset.fold max (⊥ : EReal) f Finset.univ) (funext fun n => ?_)
  by_cases h : b (ix1 n) = BitVec.ofNat 32 s.val
  · rw [if_pos h]; simp [Scalar.select, IntOp.cmpi, h]
  · rw [if_neg h]; simp [Scalar.select, IntOp.cmpi, beq_eq_false_iff_ne.mpr h]

/-- The weight of a row. -/
theorem weight_apply (g : FVec Ideal S100000 .f32) (b : IVec S100000 32) (n : Fin 100000) :
    weight g b (ix1 n) = Ideal.exp (g (ix1 n) - ofGroup (top g b) b (ix1 n)) := by
  pointwise [weight]

/-- The updates whose position, read signed, is `s` are the members of group `s`. -/
theorem landing (b : IVec S100000 32) (s : Fin 64) :
    (Finset.univ.filter fun n : Fin 100000 => (column b (ix2 n 0)).toInt = (s.val : ℤ)) = Pool.members (fun n => b (ix1 n)) s := by
  unfold Pool.members
  refine Finset.filter_congr fun n _ => ?_
  rw [column_apply, Indexed.toInt_eq_iff _ _ (by have := s.isLt; omega)]

/-- The sum of a group's values. -/
theorem total_apply (e : FVec Ideal S100000 .f32) (b : IVec S100000 32) (s : Fin 64) :
    total e b (ix1 s) = ∑ n ∈ Pool.members (fun n => b (ix1 n)) s, e (ix1 n) := by
  have h := Indexed.segment_sum_vec scatter_S64_S100000x1_S100000_n_0_0_1 rfl rfl rfl
    (broadcastInDim S64 ![] bcast_S_S64 (constant (F := Ideal) S_ .f32 0x00000000#32)) (column b) e s
  rw [landing, show broadcastInDim S64 ![] bcast_S_S64 (constant (F := Ideal) S_ .f32 0x00000000#32) (ix1 s) = (0 : EReal) by pointwise, zero_add] at h
  exact h

/-- The share of a row. -/
theorem share_apply (e : FVec Ideal S100000 .f32) (b : IVec S100000 32) (n : Fin 100000) :
    share e b (ix1 n) = Ideal.div (e (ix1 n)) (ofGroup (total e b) b (ix1 n)) := by
  pointwise [share]

/-- The features before their activation. -/
theorem linear_apply (x : FVec Ideal S100000x128 .f32) (wf : FVec Ideal S128x128 .f32) (bf : FVec Ideal S128 .f32) (n : Fin 100000) (d : Fin 128) :
    linear x wf bf (ix2 n d) = ∑ k : Fin 128, x (ix2 n k) * wf (ix2 k d) + bf (ix1 d) := by
  pointwise [linear]

/-- The features. -/
theorem feature_apply (f : FVec Ideal S100000x128 .f32) (n : Fin 100000) (d : Fin 128) :
    feature f (ix2 n d) = Pool.leaky (f (ix2 n d)) := by
  pointwise [feature]
  show (if 0 ≤ f (ix2 n d) then f (ix2 n d) else Ideal.ofBits .f32 0x3C23D70A#32 * f (ix2 n d)) = _
  rw [Literals.hundredth]
  rfl

/-- The pooled rows. -/
theorem pool_apply (a : FVec Ideal S100000 .f32) (f : FVec Ideal S100000x128 .f32) (b : IVec S100000 32) (s : Fin 64) (d : Fin 128) :
    pool a f b (ix2 s d) = ∑ n ∈ Pool.members (fun n => b (ix1 n)) s, a (ix1 n) * f (ix2 n d) := by
  have h := Indexed.segment_sum_rows scatter_S64x128_S100000x1_S100000x128_1_0_0_1 rfl rfl rfl rfl
    (broadcastInDim S64x128 ![] bcast_S_S64x128 (constant (F := Ideal) S_ .f32 0x00000000#32)) (column b)
    (mulf (broadcastInDim S100000x128 ![0, 1] bcast_S100000x1_S100000x128_0_1 (broadcastInDim S100000x1 ![0] bcast_S100000_S100000x1_0 a)) f) s d
  rw [landing, show broadcastInDim S64x128 ![] bcast_S_S64x128 (constant (F := Ideal) S_ .f32 0x00000000#32) (ix2 s d) = (0 : EReal) by pointwise, zero_add] at h
  refine (show pool a f b (ix2 s d) = _ from h).trans (Finset.sum_congr rfl fun n _ => ?_)
  pointwise

/-- The last linear layer. -/
theorem last_apply (p xo : FVec Ideal S64x128 .f32) (wt : FVec Ideal S256x128 .f32) (bt : FVec Ideal S128 .f32) (s : Fin 64) (d : Fin 128) :
    last p xo wt bt (ix2 s d) = ∑ x : Fin 128, p (ix2 s x) * wt (ix2 ⟨x.val, by omega⟩ d)
      + ∑ x : Fin 128, xo (ix2 s x) * wt (ix2 ⟨128 + x.val, by omega⟩ d) + bt (ix1 d) := by
  pointwise [last]

/-- The result. -/
theorem out_apply (t xo : FVec Ideal S64x128 .f32) (s : Fin 64) (d : Fin 128) :
    out t xo (ix2 s d) = Pool.leaky (t (ix2 s d)) + xo (ix2 s d) := by
  pointwise [out]
  show (if 0 ≤ t (ix2 s d) then t (ix2 s d) else Ideal.ofBits .f32 0x3C23D70A#32 * t (ix2 s d)) + xo (ix2 s d) = _
  rw [Literals.hundredth]
  rfl

/-- THE REFERENCE'S RESULT: the last layer of each group's sum of shares times features. -/
theorem whole_apply (xo : FVec Ideal S64x128 .f32) (x : FVec Ideal S100000x128 .f32) (b : IVec S100000 32) (wm : FVec Ideal S128x1 .f32)
    (bm : FVec Ideal S1 .f32) (wf : FVec Ideal S128x128 .f32) (bf : FVec Ideal S128 .f32) (wt : FVec Ideal S256x128 .f32)
    (bt : FVec Ideal S128 .f32) (s : Fin 64) (d : Fin 128) :
    whole xo x b wm bm wf bf wt bt (ix2 s d)
      = Pool.head (fun s d => ∑ n ∈ Pool.members (fun n => b (ix1 n)) s, share (weight (gate x wm bm) b) b (ix1 n)
            * Pool.feat (fun n k => x (ix2 n k)) (fun k d => wf (ix2 k d)) (fun d => bf (ix1 d)) n d)
          (fun s d => xo (ix2 s d)) (fun k d => wt (ix2 k d)) (fun d => bt (ix1 d)) s d := by
  unfold whole Pool.head Pool.feat
  rw [out_apply, last_apply]
  simp only [pool_apply, feature_apply, linear_apply]

end Cert.ReferenceIdeal.Stages

end
-- ==== Proof.Equation.lean ====
module

public import proofs.«01_k».proof.Proof.RefValue

@[expose] public section

set_option maxRecDepth 16384

noncomputable section

open Idealize.ShloMosaic

/-! The equation between the two ways of pooling: shares of weights shifted by a group's largest score, against one division
    of two sums of unshifted weights. -/

namespace Cert.Equation

open Cert.ReferenceIdeal Cert.ReferenceIdeal.Stages

/-- The largest score of a group with a row in it is a real number, when every score is. -/
theorem top_real (g : FVec Ideal S100000 .f32) (b : IVec S100000 32) (a : Fin 100000 → ℝ) (hg : ∀ n, g (ix1 n) = (a n : EReal))
    (s : Fin 64) (n : Fin 100000) (hn : b (ix1 n) = BitVec.ofNat 32 s.val) : ∃ r : ℝ, top g b (ix1 s) = (r : EReal) := by
  rw [top_apply]
  refine Softmax.fold_max_real _ _ (fun i _ => ?_) ⟨n, Finset.mem_univ n, ?_⟩
  · by_cases h : b (ix1 i) = BitVec.ofNat 32 s.val
    · rw [if_pos h, hg]; exact EReal.coe_ne_top _
    · rw [if_neg h]; exact bot_ne_top
  · rw [if_pos hn, hg]; exact EReal.coe_ne_bot _

/-- A group's sum of shares times features is the quotient of its sum of weighted features by its sum of weights, the
    weights of the quotient without the bias and without the shift by the largest score. -/
theorem pooled_eq (x : FVec Ideal S100000x128 .f32) (b : IVec S100000 32) (wm : FVec Ideal S128x1 .f32) (bm : FVec Ideal S1 .f32)
    (β : ℝ) (hβ : bm (ix1 0) = (β : EReal)) (a : Fin 100000 → ℝ)
    (ha : ∀ n, ∑ k : Fin 128, x (ix2 n k) * wm (ix2 k 0) = (a n : EReal)) (f : Fin 100000 → Fin 128 → EReal) (s : Fin 64) (d : Fin 128) :
    ∑ n ∈ Pool.members (fun n => b (ix1 n)) s, share (weight (gate x wm bm) b) b (ix1 n) * f n d
      = Pool.quotient (fun n => Ideal.exp (Pool.score (fun n k => x (ix2 n k)) (fun k => wm (ix2 k 0)) n)) f (fun n => b (ix1 n)) s d := by
  have mem : ∀ n, n ∈ Pool.members (fun n => b (ix1 n)) s → b (ix1 n) = BitVec.ofNat 32 s.val := fun n hn => (Finset.mem_filter.1 hn).2
  have hq : Pool.quotient (fun n => Ideal.exp (Pool.score (fun n k => x (ix2 n k)) (fun k => wm (ix2 k 0)) n)) f (fun n => b (ix1 n)) s d
      = Softmax.pooled (Pool.members (fun n => b (ix1 n)) s) a (fun n => f n d) := by
    unfold Pool.quotient Softmax.pooled Pool.score
    simp only [ha, Ideal.exp_coe]
  rw [hq]
  have hg : ∀ n, gate x wm bm (ix1 n) = ((a n + β : ℝ) : EReal) := fun n => by rw [gate_apply, ha, hβ, EReal.coe_add]
  rcases (Pool.members (fun n => b (ix1 n)) s).eq_empty_or_nonempty with h0 | ⟨n0, hn0⟩
  · rw [h0, ← Softmax.sum_weights ∅ a (fun n => f n d) 0, Finset.sum_empty, Finset.sum_empty]
  · obtain ⟨r, hr⟩ := top_real (gate x wm bm) b (fun n => a n + β) hg s n0 (mem n0 hn0)
    have hw : ∀ n ∈ Pool.members (fun n => b (ix1 n)) s,
        weight (gate x wm bm) b (ix1 n) = ((Real.exp (a n + (β - r)) : ℝ) : EReal) := fun n hn => by
      rw [weight_apply, ofGroup_apply _ b n s (mem n hn), hr, hg, ← EReal.coe_sub, Ideal.exp_coe, add_sub_assoc]
    rw [← Softmax.sum_weights _ a (fun n => f n d) (β - r)]
    refine Finset.sum_congr rfl fun n hn => ?_
    rw [share_apply, ofGroup_apply _ b n s (mem n hn), total_apply, hw n hn, Finset.sum_congr rfl hw]

end Cert.Equation

end
-- ==== Proof.Payload.lean ====
module

public import proofs.«01_k».proof.Proof.Gen.KernelIdeal.Skeleton
public import proofs.«01_k».proof.Proof.Spec
public import Idealize.ShloMosaic.Lib.Pointwise

@[expose] public section

set_option maxRecDepth 16384

noncomputable section

open Idealize.ShloMosaic Idealize.ShloMosaic.TcCoe Idealize.SL.Sem

/-! What one grid point of the kernel computes, read element by element. -/

namespace Cert.KernelIdeal.Payload

open Cert.KernelIdeal Cert.KernelIdeal.Gen

/-- The name `slope` has the value of `Pool.slope`, in either float format. -/
theorem named_slope (φ : FTy) (lit : BitVec φ.bits) :
    Named.named (F := Ideal) κ "slope" (φ := φ) lit = (Pool.slope : EReal) :=
  IdealRules.named_const.ideal_named_scalar κ "slope" _ _ rfl

/-- The weighted accumulator starts at zero. -/
theorem pay3_apply (s : Fin 64) (d : Fin 128) : k0_pay3 (F := Ideal) (ix2 s d) = 0 := by
  pointwise [k0_pay3]

/-- The accumulator of the weights starts at zero. -/
theorem pay4_apply (s : Fin 64) (z : Fin 1) : k0_pay4 (F := Ideal) (ix2 s z) = 0 := by
  pointwise [k0_pay4]

/-- The weight of row `r` of a block: the exponential of the row against the score weights. -/
theorem pay5_apply (x : FVec Ideal S4000x128 .f32) (w : FVec Ideal S128x1 .f32) (r : Fin 4000) (z : Fin 1) :
    k0_pay5 (F := Ideal) x w (ix2 r z) = Ideal.exp (∑ k : Fin 128, x (ix2 r k) * w (ix2 k z)) := by
  pointwise [k0_pay5]

/-- The membership table of a block: one where row `r` has group number `s`, zero elsewhere. -/
theorem pay6_apply (b : IVec S1x1x4000 32) (s : Fin 64) (r : Fin 4000) :
    k0_pay6 (F := Ideal) b (ix2 s r) = if BitVec.ofNat 32 s.val = b (ix3 0 0 r) then 1 else 0 := by
  pointwise [k0_pay6]
  show Scalar.sitofp (F := Ideal) FTy.f32 (BitVec.setWidth 32 (IntOp.cmpi .eq (BitVec.ofNat 32 s.val) (b (ix3 0 0 r)))) = _
  rw [show ∀ b : BitVec 32, Scalar.sitofp (F := Ideal) FTy.f32 b = ((b.toInt : ℝ) : EReal) from fun _ => rfl]
  by_cases h : BitVec.ofNat 32 s.val = b (ix3 0 0 r)
  · rw [if_pos h]; simp [IntOp.cmpi, h]
  · rw [if_neg h]; simp [IntOp.cmpi, beq_eq_false_iff_ne.mpr h]

/-- A block adds to the accumulator of the weights its membership table against its weights. -/
theorem pay1_apply (e : FVec Ideal S4000x1 .bf16) (h : FVec Ideal S64x4000 .bf16) (acc : FVec Ideal S64x1 .f32) (s : Fin 64) (z : Fin 1) :
    k0_pay1 (F := Ideal) e h acc (ix2 s z) = acc (ix2 s z) + ∑ r : Fin 4000, h (ix2 s r) * e (ix2 r z) := by
  pointwise [k0_pay1]

/-- A block adds to the weighted accumulator its membership table against features times weights. -/
theorem pay7_apply (x : FVec Ideal S4000x128 .f32) (b : IVec S1x1x4000 32) (w : FVec Ideal S128x1 .f32)
    (wf : FVec Ideal S128x128 .bf16) (bf : FVec Ideal S1x128 .bf16) (acc : FVec Ideal S64x128 .f32) (s : Fin 64) (d : Fin 128) :
    k0_pay7 (F := Ideal) x b w wf bf acc (ix2 s d)
      = acc (ix2 s d) + ∑ r : Fin 4000, (if BitVec.ofNat 32 s.val = b (ix3 0 0 r) then 1 else 0)
          * (Pool.leaky (∑ k : Fin 128, x (ix2 r k) * wf (ix2 k d) + bf (ix2 0 d))
              * Ideal.exp (∑ k : Fin 128, x (ix2 r k) * w (ix2 k 0))) := by
  pointwise [k0_pay7]
  refine congrArg (acc (ix2 s d) + ·) (Finset.sum_congr rfl fun r _ => ?_)
  rw [pay6_apply, pay5_apply, named_slope, Cert.Softmax.max_leaky _ _ Pool.slope_nonneg Pool.slope_le_one]
  rfl

/-- The last point's output: the quotient of the accumulators through the last layer. -/
theorem pay2_apply (den : FVec Ideal S64x1 .f32) (num : FVec Ideal S64x128 .f32) (xo : FVec Ideal S64x128 .f32)
    (wt : FVec Ideal S256x128 .f32) (bt : FVec Ideal S1x128 .f32) (s : Fin 64) (d : Fin 128) :
    k0_pay2 (F := Ideal) den num xo wt bt (ix2 s d)
      = Pool.head (fun s x => Ideal.div (num (ix2 s x)) (if den (ix2 s 0) = 0 then 1 else den (ix2 s 0)))
          (fun s x => xo (ix2 s x)) (fun x d => wt (ix2 x d)) (fun d => bt (ix2 0 d)) s d := by
  unfold Pool.head Pool.leaky
  pointwise [k0_pay2]
  rw [named_slope]

end Cert.KernelIdeal.Payload

end
-- ==== Proof.Cases.lean ====
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! What each grid point leaves in the kernel's output block and in its two accumulators, as the body's own terms over the
    blocks it reads and the accumulators of the point before. -/

namespace Cert.KernelIdeal.Cases

open Cert.KernelIdeal Cert.KernelIdeal.Gen

variable (m : (ℓ : Loc nD τ sig) → Buf (Elt Ideal) ℓ)

/-- The first grid point leaves in the two accumulators the block's contribution added to zero. -/
theorem first (c : Dev nD) (t : Fin cfg0.N) (h0 : t.val % 25 = 0) (h1 : ¬t.val % 25 = 24) :
    (outsAt0 m c t.val t.isLt).2
      = (k0_pay7 (F := Ideal) (iblk m c 0 t) (iblk m c 1 t) (iblk m c 3 t) (iblk m c 4 t) (iblk m c 5 t) (k0_pay3 (F := Ideal)),
         k0_pay1 (F := Ideal) (k0_pay5 (iblk m c 0 t) (iblk m c 3 t)) (k0_pay6 (iblk m c 1 t)) (k0_pay4 (F := Ideal))) := by
  rw [outsAt0_A m c t h0 h1]
  dsimp only
  unfold sout0_A_0 sout0_A_1
  frame_out

/-- A middle grid point leaves in the two accumulators the block's contribution added to what the point before left. -/
theorem next (c : Dev nD) (t : Fin cfg0.N) (h0 : ¬t.val % 25 = 0) (h1 : ¬t.val % 25 = 24) :
    (outsAt0 m c t.val t.isLt).2
      = (k0_pay7 (F := Ideal) (iblk m c 0 t) (iblk m c 1 t) (iblk m c 3 t) (iblk m c 4 t) (iblk m c 5 t) (outsAt0 m c (t.val - 1) (by omega)).2.1,
         k0_pay1 (F := Ideal) (k0_pay5 (iblk m c 0 t) (iblk m c 3 t)) (k0_pay6 (iblk m c 1 t)) (outsAt0 m c (t.val - 1) (by omega)).2.2) := by
  rw [outsAt0_B m c t h0 h1]
  dsimp only
  unfold sout0_B_0 sout0_B_1
  frame_out
  simp only [read_unread_whole]

/-- The last grid point does the same and stores the last layer of the two accumulators just updated. -/
theorem last (c : Dev nD) (t : Fin cfg0.N) (h0 : ¬t.val % 25 = 0) (h1 : t.val % 25 = 24) :
    outsAt0 m c t.val t.isLt
      = (k0_pay2 (F := Ideal)
           (k0_pay1 (F := Ideal) (k0_pay5 (iblk m c 0 t) (iblk m c 3 t)) (k0_pay6 (iblk m c 1 t)) (outsAt0 m c (t.val - 1) (by omega)).2.2)
           (k0_pay7 (F := Ideal) (iblk m c 0 t) (iblk m c 1 t) (iblk m c 3 t) (iblk m c 4 t) (iblk m c 5 t) (outsAt0 m c (t.val - 1) (by omega)).2.1)
           (iblk m c 2 t) (iblk m c 6 t) (iblk m c 7 t),
         k0_pay7 (F := Ideal) (iblk m c 0 t) (iblk m c 1 t) (iblk m c 3 t) (iblk m c 4 t) (iblk m c 5 t) (outsAt0 m c (t.val - 1) (by omega)).2.1,
         k0_pay1 (F := Ideal) (k0_pay5 (iblk m c 0 t) (iblk m c 3 t)) (k0_pay6 (iblk m c 1 t)) (outsAt0 m c (t.val - 1) (by omega)).2.2) := by
  rw [outsAt0_C m c t h0 h1]
  unfold sout0_C_0 sout0_C_1
  frame_out
  simp only [read_unread_whole]

end Cert.KernelIdeal.Cases

end
-- ==== Proof.KernelArray.lean ====
module

public import proofs.«01_k».proof.Proof.Payload
public import proofs.«01_k».proof.Proof.Cases
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

/-! What the kernel's result array holds after the run: the accumulators summed over the grid points are sums over all
    rows, and the last point's output is the last layer of their quotient. -/

namespace Cert.KernelIdeal.Array

open Cert.KernelIdeal Cert.KernelIdeal.Gen

variable (m : (ℓ : Loc nD τ sig) → Buf (Elt Ideal) ℓ) (c : Dev nD)

/-- The input rows (the kernel's arguments, here and below, are read as functions of row and column numbers). -/
def X (n : Fin 100000) (k : Fin 128) : EReal := (show FVec Ideal S100000x128 .f32 from m ((c : Thread nD τ).loc main_arg1)) (ix2 n k)
/-- The old pooled rows. -/
def Xo (s : Fin 64) (d : Fin 128) : EReal := (show FVec Ideal S64x128 .f32 from m ((c : Thread nD τ).loc main_arg0)) (ix2 s d)
/-- The group numbers. -/
def B (n : Fin 100000) : BitVec 32 := (show IVec S100000 32 from m ((c : Thread nD τ).loc main_arg2)) (ix1 n)
/-- The score weights. -/
def Wm (k : Fin 128) : EReal := (show FVec Ideal S128x1 .f32 from m ((c : Thread nD τ).loc main_arg3)) (ix2 k 0)
/-- The feature weights. -/
def Wf (k d : Fin 128) : EReal := (show FVec Ideal S128x128 .f32 from m ((c : Thread nD τ).loc main_arg5)) (ix2 k d)
/-- The feature bias. -/
def bf (d : Fin 128) : EReal := (show FVec Ideal S128 .f32 from m ((c : Thread nD τ).loc main_arg6)) (ix1 d)
/-- The last layer's weights. -/
def Wt (x : Fin 256) (d : Fin 128) : EReal := (show FVec Ideal S256x128 .f32 from m ((c : Thread nD τ).loc main_arg7)) (ix2 x d)
/-- The last layer's bias. -/
def bt (d : Fin 128) : EReal := (show FVec Ideal S128 .f32 from m ((c : Thread nD τ).loc main_arg8)) (ix1 d)

/-- Which block of its array each window reads at each grid point. -/
theorem idx : ∀ t : Fin cfg0.N, win0_0.index t = ![t.val, 0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The row of the whole input that row `r` of block `t` is. -/
def row (t : Fin cfg0.N) (r : Fin 4000) : Fin 100000 :=
  ⟨t.val * 4000 + r.val, by have := lt_of_lt_of_eq t.isLt N_0; omega⟩

/-- Row `r` of block `t` of the input is row `row t r` of the input. -/
theorem blk_x (t : Fin cfg0.N) (r : Fin 4000) (k : Fin 128) :
    (show FVec Ideal S4000x128 .f32 from iblk m c 0 t) (ix2 r k) = X m c (row t r) k := by
  unfold X row
  blk_point [iblk, V, idx t]

/-- Every point reads the old rows whole. -/
theorem blk_xo (t : Fin cfg0.N) (s : Fin 64) (d : Fin 128) :
    (show FVec Ideal S64x128 .f32 from iblk m c 2 t) (ix2 s d) = Xo m c s d := by
  unfold Xo
  blk_point [iblk, V, idx t]

/-- Every point reads the score weights whole. -/
theorem blk_wm (t : Fin cfg0.N) (k : Fin 128) :
    (show FVec Ideal S128x1 .f32 from iblk m c 3 t) (ix2 k 0) = Wm m c k := by
  unfold Wm
  blk_point [iblk, V, idx t]

/-- Every point reads the last layer's weights whole. -/
theorem blk_wt (t : Fin cfg0.N) (x : Fin 256) (d : Fin 128) :
    (show FVec Ideal S256x128 .f32 from iblk m c 6 t) (ix2 x d) = Wt m c x d := by
  unfold Wt
  blk_point [iblk, V, idx t]

/-- Block `t` of the group numbers, laid out as blocks, holds the group numbers of its rows. -/
theorem blk_b (t : Fin cfg0.N) (r : Fin 4000) :
    (show IVec S1x1x4000 32 from iblk m c 1 t) (ix3 0 0 r) = B m c (row t r) := by
  unfold B row
  blk_simp [iblk, idx t]
  entry_read
  pointwise
  blk_ext [idx t]

/-- Every point reads the feature weights whole. -/
theorem blk_wf (t : Fin cfg0.N) (k d : Fin 128) :
    (show FVec Ideal S128x128 .bf16 from iblk m c 4 t) (ix2 k d) = Wf m c k d := by
  unfold Wf
  blk_simp [iblk, idx t]
  entry_read
  pointwise
  blk_ext [idx t]

/-- Every point reads the feature bias whole. -/
theorem blk_bf (t : Fin cfg0.N) (d : Fin 128) :
    (show FVec Ideal S1x128 .bf16 from iblk m c 5 t) (ix2 0 d) = bf m c d := by
  unfold bf
  blk_simp [iblk, idx t]
  entry_read
  pointwise
  blk_ext [idx t]

/-- Every point reads the last layer's bias whole. -/
theorem blk_bt (t : Fin cfg0.N) (d : Fin 128) :
    (show FVec Ideal S1x128 .f32 from iblk m c 7 t) (ix2 0 d) = bt m c d := by
  unfold bt
  blk_simp [iblk, idx t]
  entry_read
  pointwise
  blk_ext [idx t]

/-- The term point `t` adds to the weighted accumulator. -/
def numTerm (t : Fin cfg0.N) (s : Fin 64) (d : Fin 128) : EReal :=
  ∑ r : Fin 4000, (if BitVec.ofNat 32 s.val = B m c (row t r) then 1 else 0)
    * (Pool.feat (X m c) (Wf m c) (bf m c) (row t r) d * Ideal.exp (Pool.score (X m c) (Wm m c) (row t r)))

/-- The term point `t` adds to the accumulator of the weights. -/
def denTerm (t : Fin cfg0.N) (s : Fin 64) : EReal :=
  ∑ r : Fin 4000, (if BitVec.ofNat 32 s.val = B m c (row t r) then 1 else 0)
    * Ideal.exp (Pool.score (X m c) (Wm m c) (row t r))

/-- A point adds its term to the weighted accumulator. -/
theorem num_step (t : Fin cfg0.N) (acc : FVec Ideal S64x128 .f32) (s : Fin 64) (d : Fin 128) :
    k0_pay7 (F := Ideal) (iblk m c 0 t) (iblk m c 1 t) (iblk m c 3 t) (iblk m c 4 t) (iblk m c 5 t) acc (ix2 s d)
      = acc (ix2 s d) + numTerm m c t s d := by
  rw [Payload.pay7_apply]
  unfold numTerm Pool.feat Pool.score
  refine congrArg (acc (ix2 s d) + ·) (Finset.sum_congr rfl fun r _ => ?_)
  rw [← blk_b m c t r, ← blk_bf m c t d]
  simp only [← blk_x m c t r, ← blk_wm m c t, ← blk_wf m c t]

/-- A point adds its term to the accumulator of the weights. -/
theorem den_step (t : Fin cfg0.N) (acc : FVec Ideal S64x1 .f32) (s : Fin 64) :
    k0_pay1 (F := Ideal) (k0_pay5 (iblk m c 0 t) (iblk m c 3 t)) (k0_pay6 (iblk m c 1 t)) acc (ix2 s 0)
      = acc (ix2 s 0) + denTerm m c t s := by
  rw [Payload.pay1_apply]
  unfold denTerm Pool.score
  refine congrArg (acc (ix2 s 0) + ·) (Finset.sum_congr rfl fun r _ => ?_)
  rw [Payload.pay6_apply, Payload.pay5_apply, ← blk_b m c t r]
  simp only [← blk_x m c t r, ← blk_wm m c t]

/-- The last grid point. -/
def tl : Fin cfg0.N := ⟨24, lt_of_lt_of_eq (by decide) N_0.symm⟩

/-- The weighted accumulator after the last point is the sum of all the points' terms. -/
theorem num_all (s : Fin 64) (d : Fin 128) :
    (outsAt0 m c tl.val tl.isLt).2.1 (ix2 s d) = ∑ t : Fin cfg0.N, numTerm m c t s d := by
  have h := Pipeline.eq_sum_fin_of_reset_step_apply_last (ι := Fin 64 × Fin 128) (M := EReal)
    (fun n h i => (outsAt0 m c n h).2.1 (ix2 i.1 i.2)) 25 (fun _ => 0) (fun t i => numTerm m c t i.1 i.2)
    (fun t h i => by
      have e := Cases.first m c t h (by omega)
      exact (congrFun (congrArg Prod.fst e) (ix2 i.1 i.2)).trans ((num_step m c t _ i.1 i.2).trans (by rw [Payload.pay3_apply])))
    (fun t h i => by
      by_cases h1 : t.val % 25 = 24
      · have e := Cases.last m c t h h1
        exact (congrFun (congrArg (fun q => q.2.1) e) (ix2 i.1 i.2)).trans (num_step m c t _ i.1 i.2)
      · have e := Cases.next m c t h h1
        exact (congrFun (congrArg Prod.fst e) (ix2 i.1 i.2)).trans (num_step m c t _ i.1 i.2))
    (le_of_eq N_0) tl N_0.symm (s, d)
  rw [zero_add] at h
  exact h

/-- The accumulator of the weights after the last point is the sum of all the points' terms. -/
theorem den_all (s : Fin 64) :
    (outsAt0 m c tl.val tl.isLt).2.2 (ix2 s 0) = ∑ t : Fin cfg0.N, denTerm m c t s := by
  have h := Pipeline.eq_sum_fin_of_reset_step_apply_last (ι := Fin 64) (M := EReal)
    (fun n h i => (outsAt0 m c n h).2.2 (ix2 i 0)) 25 (fun _ => 0) (fun t i => denTerm m c t i)
    (fun t h i => by
      have e := Cases.first m c t h (by omega)
      exact (congrFun (congrArg Prod.snd e) (ix2 i 0)).trans ((den_step m c t _ i).trans (by rw [Payload.pay4_apply])))
    (fun t h i => by
      by_cases h1 : t.val % 25 = 24
      · have e := Cases.last m c t h h1
        exact (congrFun (congrArg (fun q => q.2.2) e) (ix2 i 0)).trans (den_step m c t _ i)
      · have e := Cases.next m c t h h1
        exact (congrFun (congrArg Prod.snd e) (ix2 i 0)).trans (den_step m c t _ i))
    (le_of_eq N_0) tl N_0.symm s
  rw [zero_add] at h
  exact h

/-- A sum over the grid points of sums over a block's rows is the sum over all rows. -/
theorem sum_rows (f : Fin 100000 → EReal) : ∑ t : Fin cfg0.N, ∑ r : Fin 4000, f (row t r) = ∑ n, f n := by
  rw [Fin.sum_univ_tiles 25 4000 rfl f, ← (finCongr N_0).sum_comp]
  rfl

/-- THE KERNEL'S RESULT: the last layer of the groups' quotients. -/
theorem result (s : Fin 64) (d : Fin 128) :
    (show FVec Ideal S64x128 .f32 from Value.G8 m c) (ix2 s d)
      = Pool.head (Pool.quotient (fun n => Ideal.exp (Pool.score (X m c) (Wm m c) n))
          (Pool.feat (X m c) (Wf m c) (bf m c)) (B m c)) (Xo m c) (Wt m c) (bt m c) s d := by
  have hl := Cases.last m c tl (by decide) (by decide)
  have hG : Value.G8 m c = (outsAt0 m c tl.val tl.isLt).1 := by
    rw [Value.G8_last, Value.outsAt0_sweep]; rfl
  have hn : ∀ s x, _ = ∑ t : Fin cfg0.N, numTerm m c t s x := fun s x =>
    (congrFun (congrArg (fun q => q.2.1) hl) (ix2 s x)).symm.trans (num_all m c s x)
  have hd : ∀ s, _ = ∑ t : Fin cfg0.N, denTerm m c t s := fun s =>
    (congrFun (congrArg (fun q => q.2.2) hl) (ix2 s 0)).symm.trans (den_all m c s)
  rw [hG, hl]
  dsimp only at hn hd ⊢
  show k0_pay2 (F := Ideal) _ _ _ _ _ (ix2 s d) = _
  rw [Payload.pay2_apply]
  simp only [hn, hd, blk_xo, blk_wt, blk_bt]
  refine congrArg (fun P => Pool.head P (Xo m c) (Wt m c) (bt m c) s d) (funext fun s => funext fun x => ?_)
  unfold numTerm denTerm Pool.quotient
  rw [sum_rows (fun n => (if BitVec.ofNat 32 s.val = B m c n then 1 else 0)
      * (Pool.feat (X m c) (Wf m c) (bf m c) n x * Ideal.exp (Pool.score (X m c) (Wm m c) n))),
    sum_rows (fun n => (if BitVec.ofNat 32 s.val = B m c n then 1 else 0) * Ideal.exp (Pool.score (X m c) (Wm m c) n)),
    Pool.sum_hot, Pool.sum_hot]

end Cert.KernelIdeal.Array

end
-- ==== Proof.Pre.lean ====
module

public import proofs.«01_k».proof.Pre_finite_gates
public import proofs.«01_k».proof.Proof.Literals
public import Idealize.ShloMosaic.Lib.Pointwise

@[expose] public section

set_option maxRecDepth 16384

noncomputable section

open Idealize.ShloMosaic

/-! What the precondition says: every score and the score bias are real numbers. -/

namespace Cert.Pre

open Cert.Pre_finite_gates

variable [Cert.Pre_finite_gates.Facts]

/-- If the precondition holds, every score with its bias is neither infinity. -/
theorem finite (a0 : FVec Ideal S64x128 .f32) (x : FVec Ideal S100000x128 .f32) (a2 : IVec S100000 32) (wm : FVec Ideal S128x1 .f32)
    (bm : FVec Ideal S1 .f32) (a5 : FVec Ideal S128x128 .f32) (a6 : FVec Ideal S128 .f32) (a7 : FVec Ideal S256x128 .f32) (a8 : FVec Ideal S128 .f32)
    (h : Cert.Pre_finite_gates.fn (F := Ideal) a0 x a2 wm bm a5 a6 a7 a8 = fun _ => 1#1) (n : Fin 100000) :
    ∑ k : Fin 128, x (ix2 n k) * wm (ix2 k 0) + bm (ix1 0) ≠ ⊤ ∧ ∑ k : Fin 128, x (ix2 n k) * wm (ix2 k 0) + bm (ix1 0) ≠ ⊥ := by
  have hn := congrFun h (ix2 n 0)
  revert hn
  pointwise [Cert.Pre_finite_gates.fn]
  rw [Literals.infinity]
  generalize ∑ k : Fin 128, x (ix2 n k) * wm (ix2 k 0) + bm (ix1 0) = v
  intro hv
  have hlt : max v (-v) < (⊤ : EReal) := by
    by_contra hc
    rw [show decide (FloatOps.absf (F := Ideal) (φ := .f32) v < (⊤ : EReal)) = false from decide_eq_false hc] at hv
    exact absurd hv (by decide)
  constructor
  · rintro rfl
    exact absurd hlt (by simp)
  · rintro rfl
    exact absurd hlt (by simp)

/-- If the precondition holds, the scores without their bias and the bias are real numbers. -/
theorem reals (a0 : FVec Ideal S64x128 .f32) (x : FVec Ideal S100000x128 .f32) (a2 : IVec S100000 32) (wm : FVec Ideal S128x1 .f32)
    (bm : FVec Ideal S1 .f32) (a5 : FVec Ideal S128x128 .f32) (a6 : FVec Ideal S128 .f32) (a7 : FVec Ideal S256x128 .f32) (a8 : FVec Ideal S128 .f32)
    (h : Cert.Pre_finite_gates.fn (F := Ideal) a0 x a2 wm bm a5 a6 a7 a8 = fun _ => 1#1) :
    (∃ r : ℝ, bm (ix1 0) = (r : EReal))
      ∧ ∃ a : Fin 100000 → ℝ, ∀ n, ∑ k : Fin 128, x (ix2 n k) * wm (ix2 k 0) = (a n : EReal) := by
  have parts : ∀ u v : EReal, u + v ≠ ⊤ → u + v ≠ ⊥ → (∃ r : ℝ, u = (r : EReal)) ∧ ∃ r : ℝ, v = (r : EReal) := by
    intro u v ht hb
    induction u using EReal.rec with
    | bot => exact absurd (EReal.bot_add v) hb
    | top =>
      induction v using EReal.rec with
      | bot => exact absurd (EReal.add_bot _) hb
      | top => exact absurd EReal.top_add_top ht
      | coe r => exact absurd (EReal.top_add_coe r) ht
    | coe q =>
      induction v using EReal.rec with
      | bot => exact absurd (EReal.add_bot _) hb
      | top => exact absurd (EReal.coe_add_top q) ht
      | coe r => exact ⟨⟨q, rfl⟩, ⟨r, rfl⟩⟩
  have hp := fun n => parts _ _ (finite a0 x a2 wm bm a5 a6 a7 a8 h n).1 (finite a0 x a2 wm bm a5 a6 a7 a8 h n).2
  exact ⟨(hp 0).2, fun n => (hp n).1.choose, fun n => (hp n).1.choose_spec⟩

end Cert.Pre

end
-- ==== Proof.Closing.lean ====
module

public import proofs.«01_k».proof.Proof.Equation
public import proofs.«01_k».proof.Proof.KernelArray
public import proofs.«01_k».proof.Proof.Pre

@[expose] public section

set_option maxRecDepth 16384

noncomputable section

open Idealize.ShloMosaic Idealize.ShloMosaic.TcCoe Idealize.SL.Sem

/-! The two results side by side. -/

namespace Cert.Closing

open Cert.KernelIdeal

/-- Under the precondition the reference's stages over the kernel's arguments are the kernel's result array. -/
theorem arrays_eq [Cert.Pre_finite_gates.Facts] (m : (ℓ : Loc nD τ sig) → Buf (Elt Ideal) ℓ) (c : Dev nD)
    (h : Cert.Pre_finite_gates.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = fun _ => 1#1) :
    Cert.ReferenceIdeal.Stages.whole (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = Value.G8 m c := by
  obtain ⟨⟨β, hβ⟩, a, ha⟩ := Cert.Pre.reals _ _ _ _ _ _ _ _ _ h
  funext i
  rw [← ix2_eta i]
  refine Eq.trans (Cert.ReferenceIdeal.Stages.whole_apply _ _ _ _ _ _ _ _ _ (i 0) (i 1)) (Eq.trans ?_ (Array.result m c (i 0) (i 1)).symm)
  refine congrArg (fun P => Pool.head P _ _ _ (i 0) (i 1)) (funext fun s => funext fun d => ?_)
  exact Cert.Equation.pooled_eq _ _ _ _ β hβ a ha _ s d

end Cert.Closing

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite_gates
public import proofs.«01_k».proof.Proof.Closing
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments as they were and declares no semaphore. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's slope is the named constant in both formats in which the kernel writes it. -/
theorem preserves : preserves_Kernel_KernelIdeal :=
  ⟨IdealRules.named_const.statement Cert.KernelIdeal.κ "slope" .bf16 0x3C24#16 ((5368709 / 536870912 : ℝ) : EReal) rfl,
   IdealRules.named_const.statement Cert.KernelIdeal.κ "slope" .f32 0x3C23D70A#32 ((5368709 / 536870912 : ℝ) : EReal) rfl⟩

/-- Where the scores are finite the kernel's result array is the reference's. -/
theorem algebraic : algebraic_KernelIdeal_ReferenceIdeal_pre_finite_gates := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5, e6, e7, e8⟩ := hagree c
  refine (h c).1.trans ((Cert.ReferenceIdeal.Stages.result_eq m' c).trans ?_)
  refine Eq.trans ?_ (Cert.Closing.arrays_eq m c (hpre c))
  rw [e0, e1, e2, e3, e4, e5, e6, e7, e8]

/-- Every claim. -/
theorem claim : Cert.Claim :=
  ⟨Cert.Kernel.Gen.facts, Cert.KernelIdeal.Gen.facts, Cert.ReferenceIdeal.Gen.facts, Cert.Pre_finite_gates.Gen.facts,
   fun m ρ _ => Cert.Kernel.Gen.frame m ρ, fun m ρ _ => Cert.KernelIdeal.Gen.frame m ρ, fun m ρ _ => Cert.KernelIdeal.Gen.frame m ρ,
   reference_frame, fun m ρ _ => reference_frame m ρ trivial, preserves, algebraic⟩

end Cert.Proof

end
